-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_coords_drawn [hPre_coords_drawn : Cert.Pre_coords_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_coords_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_coords_drawn [hPre_coords_drawn : Cert.Pre_coords_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_coords_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_coords_drawn [hKernelIdeal : Cert.KernelIdeal.Facts] [hPre_coords_drawn : Cert.Pre_coords_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_coords_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_coords_drawn [hReferenceIdeal : Cert.ReferenceIdeal.Facts] [hPre_coords_drawn : Cert.Pre_coords_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_coords_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_coords_drawn [hKernelIdeal : Cert.KernelIdeal.Facts] [hReferenceIdeal : Cert.ReferenceIdeal.Facts] [hPre_coords_drawn : Cert.Pre_coords_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_coords_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_coords_drawn : Cert.Pre_coords_drawn.Facts),
    quiescent_Kernel (hKernel := hKernel)
    ∧ quiescent_KernelIdeal (hKernelIdeal := hKernelIdeal)
    ∧ quiescent_KernelIdeal_pre_coords_drawn (hKernelIdeal := hKernelIdeal) (hPre_coords_drawn := hPre_coords_drawn)
    ∧ quiescent_ReferenceIdeal (hReferenceIdeal := hReferenceIdeal)
    ∧ quiescent_ReferenceIdeal_pre_coords_drawn (hReferenceIdeal := hReferenceIdeal) (hPre_coords_drawn := hPre_coords_drawn)
    ∧ preserves_Kernel_KernelIdeal
    ∧ algebraic_KernelIdeal_ReferenceIdeal_pre_coords_drawn (hKernelIdeal := hKernelIdeal) (hReferenceIdeal := hReferenceIdeal) (hPre_coords_drawn := hPre_coords_drawn)
-- ==== Pre_coords_drawn.lean ====
abbrev S2x384x384x192 : Shape := ⟨4, ![2, 384, 384, 192]⟩
abbrev S2x384x384x3 : Shape := ⟨4, ![2, 384, 384, 3]⟩
abbrev S_ : Shape := ⟨0, ![]⟩

class Facts : Prop where
  bcast_S_S2x384x384x3 : S_.BroadcastsInDim S2x384x384x3 (![] : Fin 0 → Fin S2x384x384x3.rank)

variable [Facts]

def fn {F : FTy → Type} [FloatOps F] (main_arg0 : FVec F S2x384x384x192 .f32) (main_arg1 : FVec F S2x384x384x3 .f32) : IVec S2x384x384x3 1 :=
  let main_cst : FVec F S_ .f32 := constant S_ .f32 0x00000000#32
  let main_v0 : FVec F S2x384x384x3 .f32 := broadcastInDim S2x384x384x3 ![] bcast_S_S2x384x384x3 main_cst
  let main_v1 : IVec S2x384x384x3 1 := cmpf .oge main_arg1 main_v0
  let main_cst_0 : FVec F S_ .f32 := constant S_ .f32 0x3F800000#32
  let main_v2 : FVec F S2x384x384x3 .f32 := broadcastInDim S2x384x384x3 ![] bcast_S_S2x384x384x3 main_cst_0
  let main_v3 : IVec S2x384x384x3 1 := cmpf .olt main_arg1 main_v2
  let main_v4 : IVec S2x384x384x3 1 := andi main_v1 main_v3
  main_v4
-- ==== Kernel.lean ====
abbrev S2x384x384x192 : Shape := ⟨4, ![2, 384, 384, 192]⟩
abbrev S2x384x384x3 : Shape := ⟨4, ![2, 384, 384, 3]⟩
abbrev S2x384x384x1 : Shape := ⟨4, ![2, 384, 384, 1]⟩
abbrev S2x384x384 : Shape := ⟨3, ![2, 384, 384]⟩
abbrev S1x1x8x192 : Shape := ⟨4, ![1, 1, 8, 192]⟩
abbrev S8x192 : Shape := ⟨2, ![8, 192]⟩
abbrev S1x48x384 : Shape := ⟨3, ![1, 48, 384]⟩
abbrev S1x48x384x192 : Shape := ⟨4, ![1, 48, 384, 192]⟩
abbrev S48x384 : Shape := ⟨2, ![48, 384]⟩
abbrev S1x192 : Shape := ⟨2, ![1, 192]⟩
abbrev S192 : Shape := ⟨1, ![192]⟩
abbrev S48x384x1 : Shape := ⟨3, ![48, 384, 1]⟩
abbrev S1x1x192 : Shape := ⟨3, ![1, 1, 192]⟩
abbrev S48x384x192 : Shape := ⟨3, ![48, 384, 192]⟩

abbrev nBuf : Space → Nat
  | .hbm => 7
  | .vmem => 5
  | .smem => 0
  | _ => 0

abbrev bufTy : (tb : Table) → Fin (tcTables nBuf tb) → BufTy
  | .hbm, ⟨0, _⟩ => ⟨S2x384x384x192, .f32⟩
  | .hbm, ⟨1, _⟩ => ⟨S2x384x384x3, .f32⟩
  | .hbm, ⟨2, _⟩ => ⟨S2x384x384x1, .f32⟩
  | .hbm, ⟨3, _⟩ => ⟨S2x384x384, .f32⟩
  | .hbm, ⟨4, _⟩ => ⟨S1x1x8x192, .f32⟩
  | .hbm, ⟨5, _⟩ => ⟨S8x192, .f32⟩
  | .hbm, ⟨6, _⟩ => ⟨S2x384x384x192, .f32⟩
  | .local _ .vmem, ⟨0, _⟩ => ⟨S8x192, .f32⟩
  | .local _ .vmem, ⟨1, _⟩ => ⟨S1x48x384, .f32⟩
  | .local _ .vmem, ⟨2, _⟩ => ⟨S1x48x384, .f32⟩
  | .local _ .vmem, ⟨3, _⟩ => ⟨S1x48x384x192, .f32⟩
  | .local _ .vmem, ⟨4, _⟩ => ⟨S1x48x384x192, .f32⟩
  | _, _ => ⟨S2x384x384x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S8x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x48x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x48x384x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S2x384x384x192 : Shape := ⟨4, ![2, 384, 384, 192]⟩
abbrev S2x384x384x3 : Shape := ⟨4, ![2, 384, 384, 3]⟩
abbrev S2x384x384x1 : Shape := ⟨4, ![2, 384, 384, 1]⟩
abbrev S_ : Shape := ⟨0, ![]⟩
abbrev S2x384x384 : Shape := ⟨3, ![2, 384, 384]⟩

abbrev nBuf : Space → Nat
  | .hbm => 104
  | .vmem => 0
  | .smem => 0
  | _ => 0

abbrev bufTy : (tb : Table) → Fin (tcTables nBuf tb) → BufTy
  | .hbm, ⟨0, _⟩ => ⟨S2x384x384x192, .f32⟩
  | .hbm, ⟨1, _⟩ => ⟨S2x384x384x3, .f32⟩
  | .hbm, ⟨2, _⟩ => ⟨S2x384x384x1, .f32⟩
  | .hbm, ⟨3, _⟩ => ⟨S2x384x384x1, .f32⟩
  | .hbm, ⟨4, _⟩ => ⟨S2x384x384x1, .f32⟩
  | .hbm, ⟨5, _⟩ => ⟨S2x384x384x1, .f32⟩
  | .hbm, ⟨6, _⟩ => ⟨S_, .f32⟩
  | .hbm, ⟨7, _⟩ => ⟨S2x384x384x1, .f32⟩
  | .hbm, ⟨8, _⟩ => ⟨S2x384x384x1, .f32⟩
  | .hbm, ⟨9, _⟩ => ⟨S2x384x384x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x384x384x1, .f32⟩
  | .hbm, ⟨14, _⟩ => ⟨S2x384x384x1, .f32⟩
  | .hbm, ⟨15, _⟩ => ⟨S2x384x384x1, .f32⟩
  | .hbm, ⟨16, _⟩ => ⟨S2x384x384x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2x384x384x1, .f32⟩
  | .hbm, ⟨21, _⟩ => ⟨S2x384x384x1, .f32⟩
  | .hbm, ⟨22, _⟩ => ⟨S2x384x384x1, .f32⟩
  | .hbm, ⟨23, _⟩ => ⟨S2x384x384x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2x384x384x1, .f32⟩
  | .hbm, ⟨28, _⟩ => ⟨S2x384x384x1, .f32⟩
  | .hbm, ⟨29, _⟩ => ⟨S2x384x384x1, .f32⟩
  | .hbm, ⟨30, _⟩ => ⟨S2x384x384x1, .f32⟩
  | .hbm, ⟨31, _⟩ => ⟨S2x384x384x1, .f32⟩
  | .hbm, ⟨32, _⟩ => ⟨S2x384x384x1, .i1⟩
  | .hbm, ⟨33, _⟩ => ⟨S2x384x384x1, .f32⟩
  | .hbm, ⟨34, _⟩ => ⟨S2x384x384x1, .f32⟩
  | .hbm, ⟨35, _⟩ => ⟨S2x384x384x1, .f32⟩
  | .hbm, ⟨36, _⟩ => ⟨S2x384x384x1, .i1⟩
  | .hbm, ⟨37, _⟩ => ⟨S2x384x384x1, .f32⟩
  | .hbm, ⟨38, _⟩ => ⟨S2x384x384x1, .f32⟩
  | .hbm, ⟨39, _⟩ => ⟨S2x384x384, .f32⟩
  | .hbm, ⟨40, _⟩ => ⟨S2x384x384, .i32⟩
  | .hbm, ⟨41, _⟩ => ⟨S2x384x384, .f32⟩
  | .hbm, ⟨42, _⟩ => ⟨S2x384x384, .i32⟩
  | .hbm, ⟨43, _⟩ => ⟨S2x384x384, .f32⟩
  | .hbm, ⟨44, _⟩ => ⟨S2x384x384, .i32⟩
  | .hbm, ⟨45, _⟩ => ⟨S2x384x384, .f32⟩
  | .hbm, ⟨46, _⟩ => ⟨S2x384x384, .i32⟩
  | .hbm, ⟨47, _⟩ => ⟨S_, .i32⟩
  | .hbm, ⟨48, _⟩ => ⟨S2x384x384, .i32⟩
  | .hbm, ⟨49, _⟩ => ⟨S2x384x384, .i1⟩
  | .hbm, ⟨50, _⟩ => ⟨S_, .i32⟩
  | .hbm, ⟨51, _⟩ => ⟨S2x384x384, .i32⟩
  | .hbm, ⟨52, _⟩ => ⟨S2x384x384, .i32⟩
  | .hbm, ⟨53, _⟩ => ⟨S2x384x384, .i32⟩
  | .hbm, ⟨54, _⟩ => ⟨S_, .i32⟩
  | .hbm, ⟨55, _⟩ => ⟨S2x384x384, .i32⟩
  | .hbm, ⟨56, _⟩ => ⟨S2x384x384, .i1⟩
  | .hbm, ⟨57, _⟩ => ⟨S_, .i32⟩
  | .hbm, ⟨58, _⟩ => ⟨S2x384x384, .i32⟩
  | .hbm, ⟨59, _⟩ => ⟨S2x384x384, .i32⟩
  | .hbm, ⟨60, _⟩ => ⟨S2x384x384, .i32⟩
  | .hbm, ⟨61, _⟩ => ⟨S_, .i32⟩
  | .hbm, ⟨62, _⟩ => ⟨S2x384x384, .i32⟩
  | .hbm, ⟨63, _⟩ => ⟨S2x384x384, .i1⟩
  | .hbm, ⟨64, _⟩ => ⟨S_, .i32⟩
  | .hbm, ⟨65, _⟩ => ⟨S2x384x384, .i32⟩
  | .hbm, ⟨66, _⟩ => ⟨S2x384x384, .i32⟩
  | .hbm, ⟨67, _⟩ => ⟨S2x384x384, .i32⟩
  | .hbm, ⟨68, _⟩ => ⟨S2x384x384x1, .i32⟩
  | .hbm, ⟨69, _⟩ => ⟨S2x384x384x1, .i32⟩
  | .hbm, ⟨70, _⟩ => ⟨S2x384x384x1, .i32⟩
  | .hbm, ⟨71, _⟩ => ⟨S2x384x384x3, .i32⟩
  | .hbm, ⟨72, _⟩ => ⟨S2x384x384x192, .f32⟩
  | .hbm, ⟨73, _⟩ => ⟨S_, .i32⟩
  | .hbm, ⟨74, _⟩ => ⟨S2x384x384, .i32⟩
  | .hbm, ⟨75, _⟩ => ⟨S2x384x384, .i1⟩
  | .hbm, ⟨76, _⟩ => ⟨S_, .i32⟩
  | .hbm, ⟨77, _⟩ => ⟨S2x384x384, .i32⟩
  | .hbm, ⟨78, _⟩ => ⟨S2x384x384, .i32⟩
  | .hbm, ⟨79, _⟩ => ⟨S2x384x384, .i32⟩
  | .hbm, ⟨80, _⟩ => ⟨S_, .i32⟩
  | .hbm, ⟨81, _⟩ => ⟨S2x384x384, .i32⟩
  | .hbm, ⟨82, _⟩ => ⟨S2x384x384, .i1⟩
  | .hbm, ⟨83, _⟩ => ⟨S_, .i32⟩
  | .hbm, ⟨84, _⟩ => ⟨S2x384x384, .i32⟩
  | .hbm, ⟨85, _⟩ => ⟨S2x384x384, .i32⟩
  | .hbm, ⟨86, _⟩ => ⟨S2x384x384, .i32⟩
  | .hbm, ⟨87, _⟩ => ⟨S_, .i32⟩
  | .hbm, ⟨88, _⟩ => ⟨S2x384x384, .i32⟩
  | .hbm, ⟨89, _⟩ => ⟨S2x384x384, .i1⟩
  | .hbm, ⟨90, _⟩ => ⟨S_, .i32⟩
  | .hbm, ⟨91, _⟩ => ⟨S2x384x384, .i32⟩
  | .hbm, ⟨92, _⟩ => ⟨S2x384x384, .i32⟩
  | .hbm, ⟨93, _⟩ => ⟨S2x384x384, .i32⟩
  | .hbm, ⟨94, _⟩ => ⟨S2x384x384x1, .i32⟩
  | .hbm, ⟨95, _⟩ => ⟨S2x384x384x1, .i32⟩
  | .hbm, ⟨96, _⟩ => ⟨S2x384x384x1, .i32⟩
  | .hbm, ⟨97, _⟩ => ⟨S2x384x384x3, .i32⟩
  | .hbm, ⟨98, _⟩ => ⟨S2x384x384x192, .f32⟩
  | .hbm, ⟨99, _⟩ => ⟨S2x384x384x192, .f32⟩
  | .hbm, ⟨100, _⟩ => ⟨S2x384x384x192, .f32⟩
  | .hbm, ⟨101, _⟩ => ⟨S2x384x384x192, .f32⟩
  | .hbm, ⟨102, _⟩ => ⟨S2x384x384x192, .f32⟩
  | .hbm, ⟨103, _⟩ => ⟨S2x384x384x192, .f32⟩
  | _, _ => ⟨S2x384x384x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_v7 : Ref sig .tc := ⟨.hbm, 16, rfl⟩
abbrev main_cst_2 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_v8 : Ref sig .tc := ⟨.hbm, 23, rfl⟩
abbrev main_cst_4 : Ref sig .tc := ⟨.hbm, 24, rfl⟩
abbrev main_cst_5 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_7 : Ref sig .tc := ⟨.hbm, 54, rfl⟩
abbrev main_v31 : Ref sig .tc := ⟨.hbm, 55, rfl⟩
abbrev main_v32 : Ref sig .tc := ⟨.hbm, 56, rfl⟩
abbrev main_c_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_9 : Ref sig .tc := ⟨.hbm, 61, rfl⟩
abbrev main_v36 : Ref sig .tc := ⟨.hbm, 62, rfl⟩
abbrev main_v37 : Ref sig .tc := ⟨.hbm, 63, rfl⟩
abbrev main_c_10 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_11 : Ref sig .tc := ⟨.hbm, 73, rfl⟩
abbrev main_v46 : Ref sig .tc := ⟨.hbm, 74, rfl⟩
abbrev main_v47 : Ref sig .tc := ⟨.hbm, 75, rfl⟩
abbrev main_c_12 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_13 : Ref sig .tc := ⟨.hbm, 80, rfl⟩
abbrev main_v51 : Ref sig .tc := ⟨.hbm, 81, rfl⟩
abbrev main_v52 : Ref sig .tc := ⟨.hbm, 82, rfl⟩
abbrev main_c_14 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_c_15 : Ref sig .tc := ⟨.hbm, 87, rfl⟩
abbrev main_v56 : Ref sig .tc := ⟨.hbm, 88, rfl⟩
abbrev main_v57 : Ref sig .tc := ⟨.hbm, 89, rfl⟩
abbrev main_c_16 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩

abbrev nD : Nat := 1
abbrev τ : Topo := Topo.v7x

variable {F : FTy → Type} [FloatOps F]
-- ==== Proof.Scalars.lean ====
/- The arithmetic of one element, over the extended reals. The two interpolation weights as functions of the
   coordinate `x` (`leftWeight`, `rightWeight`), the clip of a column number to `[0, 383]` (`clip`), and what these
   and the conversion to an index come to for a coordinate in `[0, 1)`. -/
module

public import Idealize.ShloMosaic.PureOps
public import Idealize.ShloMosaic.PureOps.Ideal
public import Idealize.ShloMosaic.Lib.IdealHost

@[expose] public section

noncomputable section

namespace Cert.Warp

open Idealize.ShloMosaic

/-- A column or row number clipped to `[0, 383]`. -/
def clip (v : Ideal .f32) : Ideal .f32 :=
  FloatOps.minimumf (Scalar.ofBits .f32 0x43BF8000#32) (FloatOps.maximumf (Scalar.ofBits .f32 0x00000000#32) v)

/-- The column to the right of `x`: `⌊x⌋ + 1`. -/
def next (x : Ideal .f32) : Ideal .f32 :=
  FloatOps.addf (FloatOps.floor x) (Scalar.ofBits .f32 0x3F800000#32)

/-- The weight of the left neighbour, `⌊x⌋ + 1 − x`, or zero when that neighbour is off the image. -/
def leftWeight (x : Ideal .f32) : Ideal .f32 :=
  FloatOps.mulf (FloatOps.subf (next x) x)
    (FloatOps.sitofp .f32 ((FloatOps.cmpf .oeq (FloatOps.floor x) (clip (FloatOps.floor x))).setWidth 32))

/-- The weight of the right neighbour, `x − ⌊x⌋`, or zero when that neighbour is off the image. -/
def rightWeight (x : Ideal .f32) : Ideal .f32 :=
  FloatOps.mulf (FloatOps.subf x (FloatOps.floor x))
    (FloatOps.sitofp .f32 ((FloatOps.cmpf .oeq (next x) (clip (next x))).setWidth 32))

/-- A one-bit truth value read as an unsigned number is the same number as when it is first widened to 32 bits and
    then read as a signed one. -/
theorem uitofp_bit (b : BitVec 1) :
    (FloatOps.uitofp .f32 b : Ideal .f32) = FloatOps.sitofp .f32 (b.setWidth 32) := by
  show ((b.toNat : ℝ) : EReal) = (((b.setWidth 32).toInt : ℝ) : EReal)
  rcases BitVec.eq_zero_or_eq_one b with rfl | rfl <;> simp

/-- The word `0x43BF8000` is 383. -/
theorem ofBits_383 : Ideal.ofBits .f32 0x43BF8000#32 = ((383 : ℝ) : EReal) := by
  simp [Ideal.ofBits, Ideal.ieee, -EReal.coe_mul]; norm_num

/-- A number in `[0, 1)` is a real number in `[0, 1)`. -/
theorem exists_real {x : EReal} (h0 : 0 ≤ x) (h1 : x < 1) : ∃ r : ℝ, x = (r : EReal) ∧ 0 ≤ r ∧ r < 1 := by
  induction x with
  | bot => exact absurd h0 (by simp)
  | top => exact absurd h1 (by simp)
  | coe r => exact ⟨r, rfl, by exact_mod_cast h0, by exact_mod_cast h1⟩

/-- The floor of a number in `[0, 1)` is zero. -/
theorem floor_unit {x : Ideal .f32} (h0 : (0 : EReal) ≤ x) (h1 : x < (1 : EReal)) : (FloatOps.floor x : Ideal .f32) = (0 : EReal) := by
  obtain ⟨r, rfl, hr0, hr1⟩ := exists_real h0 h1
  show ((((⌊r⌋ : ℤ) : ℝ)) : EReal) = 0
  rw [Int.floor_eq_zero_iff.mpr ⟨hr0, hr1⟩]
  simp

/-- The integer conversion of a number in `[0, 1)` is zero. -/
theorem fptosi_unit {x : Ideal .f32} (h0 : (0 : EReal) ≤ x) (h1 : x < (1 : EReal)) : FloatOps.fptosi 32 x = 0#32 := by
  obtain ⟨r, rfl, hr0, hr1⟩ := exists_real h0 h1
  show BitVec.ofInt 32 (max _ (min _ (if 0 ≤ r then ⌊r⌋ else ⌈r⌉))) = 0#32
  rw [if_pos hr0, Int.floor_eq_zero_iff.mpr ⟨hr0, hr1⟩]
  rfl

/-- Zero clipped is zero. -/
theorem clip_zero : clip (0 : EReal) = (0 : EReal) := by
  show min (Ideal.ofBits .f32 0x43BF8000#32) (max (Ideal.ofBits .f32 0x00000000#32) 0) = (0 : EReal)
  rw [ofBits_383, Ideal.ofBits_zero_f32, max_self, min_eq_right]
  exact_mod_cast (by norm_num : (0 : ℝ) ≤ 383)

/-- One clipped is one. -/
theorem clip_one : clip (1 : EReal) = (1 : EReal) := by
  show min (Ideal.ofBits .f32 0x43BF8000#32) (max (Ideal.ofBits .f32 0x00000000#32) 1) = (1 : EReal)
  rw [ofBits_383, Ideal.ofBits_zero_f32, max_eq_right zero_le_one, min_eq_right]
  exact_mod_cast (by norm_num : (1 : ℝ) ≤ 383)

/-- For a coordinate in `[0, 1)` the right neighbour is column one. -/
theorem next_unit {x : Ideal .f32} (h0 : (0 : EReal) ≤ x) (h1 : x < (1 : EReal)) : next x = (1 : EReal) := by
  unfold next
  rw [floor_unit h0 h1]
  show (0 : EReal) + Ideal.ofBits .f32 0x3F800000#32 = 1
  rw [Ideal.ofBits_one_f32, zero_add]

/-- For a coordinate in `[0, 1)` the clipped floor is index zero. -/
theorem floor_index {x : Ideal .f32} (h0 : (0 : EReal) ≤ x) (h1 : x < (1 : EReal)) :
    FloatOps.fptosi 32 (clip (FloatOps.floor x)) = 0#32 := by
  rw [floor_unit h0 h1, clip_zero]
  exact fptosi_unit le_rfl zero_lt_one

/-- For a coordinate in `[0, 1)` the clipped right neighbour is index one. -/
theorem next_index {x : Ideal .f32} (h0 : (0 : EReal) ≤ x) (h1 : x < (1 : EReal)) :
    FloatOps.fptosi 32 (clip (next x)) = 1#32 := by
  rw [next_unit h0 h1, clip_one]
  show BitVec.ofInt 32 (max _ (min _ (if (0 : ℝ) ≤ 1 then ⌊(1 : ℝ)⌋ else ⌈(1 : ℝ)⌉))) = 1#32
  rw [if_pos zero_le_one, Int.floor_one]
  rfl

/-- The value of one output element: the two columns' values weighted by how near the coordinate is to each. -/
def blend (x left right : Ideal .f32) : Ideal .f32 :=
  FloatOps.addf (FloatOps.mulf (leftWeight x) left) (FloatOps.mulf (rightWeight x) right)

end Cert.Warp

end
-- ==== Proof.Block.lean ====
/- What one block of the kernel computes. From a block of 48 rows of x-coordinates and the image's first two columns,
   the body leaves in its output block, at `(0, r, w, c)`, the blend of channel `c` of the two columns by the coordinate
   at row `r`, column `w`. -/
module

public import proofs.«01_k».proof.Proof.Scalars
public import proofs.«01_k».proof.Proof.Gen.KernelIdeal.Frame
public import Idealize.ShloMosaic.Lib.Pipeline.Value
public import Idealize.ShloMosaic.Lib.ValueIdxCore

@[expose] public section

noncomputable section

namespace Cert.Warp

open Idealize.ShloMosaic Idealize.ShloMosaic.ValueIdx Idealize.ShloMosaic.TcCoe
open Cert.KernelIdeal Cert.KernelIdeal.Gen

/-- Per-pixel weights repeated along the channels: at `(r, w, c)` the weight of pixel `(r, w)`. -/
theorem perPixel_apply {α : Type} (v : S48x384.Idx → α) (r : Fin 48) (w : Fin 384) (c : Fin 192) :
    broadcastTo S48x384x192 (shapeCast S48x384x1 v shapeCasts_S48x384_S48x384x1) broadcasts_S48x384x1_S48x384x192 (ix3 r w c)
      = v (ix2 r w) := by
  refine (broadcastTo_apply _ _ _ (ix3 r w 0) ?_).trans (shapeCast_apply _ _ _ _ ?_)
  · intro a
    match a with
    | ⟨0, _⟩ => rfl
    | ⟨1, _⟩ => rfl
    | ⟨2, _⟩ => rfl
  · rw [Shape.rowMajor_val_two, Shape.rowMajor_val_three]
    show r.val * 384 + w.val = (r.val * 384 + w.val) * 1 + 0
    omega

/-- A column's channels repeated over the pixels: at `(r, w, c)` channel `c`. -/
theorem perChannel_apply {α : Type} (v : S1x192.Idx → α) (r : Fin 48) (w : Fin 384) (c : Fin 192) :
    broadcastTo S48x384x192 (shapeCast S1x1x192 (shapeCast S192 v shapeCasts_S1x192_S192) shapeCasts_S192_S1x1x192)
        broadcasts_S1x1x192_S48x384x192 (ix3 r w c)
      = v (ix2 0 c) := by
  refine (broadcastTo_apply _ _ _ (ix3 0 0 c) ?_).trans
    ((shapeCast_apply _ _ _ (ix1 c) ?_).trans (shapeCast_apply _ _ _ _ ?_))
  · intro a
    match a with
    | ⟨0, _⟩ => rfl
    | ⟨1, _⟩ => rfl
    | ⟨2, _⟩ => rfl
  · rw [Shape.rowMajor_val_one, Shape.rowMajor_val_three]
    show c.val = (0 * 1 + 0) * 192 + c.val
    omega
  · rw [Shape.rowMajor_val_two, Shape.rowMajor_val_one]
    show 0 * 192 + c.val = c.val
    omega

/-- The block of coordinates without its leading axis of length one. -/
theorem coordBlock_apply {α : Type} (v : S1x48x384.Idx → α) (r : Fin 48) (w : Fin 384) :
    shapeCast S48x384 v shapeCasts_S1x48x384_S48x384 (ix2 r w) = v (ix3 0 r w) := by
  refine shapeCast_apply _ _ _ _ ?_
  rw [Shape.rowMajor_val_two, Shape.rowMajor_val_three]
  show (0 * 48 + r.val) * 384 + w.val = r.val * 384 + w.val
  omega

/-- The value the body stores, element by element. -/
theorem payload_apply (x : Vec Ideal S1x48x384 .f32) (left right : Vec Ideal S1x192 .f32) (y : S1x48x384x192.Idx) :
    k0_pay1 x left right y = blend (x (ix3 0 (y 1) (y 2))) (left (ix2 0 (y 3))) (right (ix2 0 (y 3))) := by
  unfold k0_pay1
  refine (shapeCast_apply _ _ y (ix3 (y 1) (y 2) (y 3)) ?_).trans ?_
  · rw [Shape.rowMajor_val_three, Shape.rowMajor_val_four]
    have h0 : (y 0).val < 1 := (y 0).isLt
    show ((y 1).val * 384 + (y 2).val) * 192 + (y 3).val = (((y 0).val * 48 + (y 1).val) * 384 + (y 2).val) * 192 + (y 3).val
    omega
  · refine congrArg₂ FloatOps.addf
      (congrArg₂ FloatOps.mulf ((perPixel_apply _ _ _ _).trans ?_) (perChannel_apply _ _ _ _))
      (congrArg₂ FloatOps.mulf ((perPixel_apply _ _ _ _).trans ?_) (perChannel_apply _ _ _ _))
    · rw [← coordBlock_apply x (y 1) (y 2)]
      rfl
    · rw [← coordBlock_apply x (y 1) (y 2)]
      rfl

/-- What the body leaves in the output block, from the staged rows `img` of the image and the staged block `x` of
    coordinates: the blend of rows 0 and 1 of `img`. -/
theorem block_apply (img : Vec Ideal S8x192 .f32) (x : Vec Ideal S1x48x384 .f32) (y : S1x48x384x192.Idx) :
    out0_2 img x y = blend (x (ix3 0 (y 1) (y 2))) (img (ix2 0 (y 3))) (img (ix2 1 (y 3))) := by
  have hz4 : (![0, 0, 0, 0] : Fin 4 → Nat) = fun _ => 0 := funext fun a => by fin_cases a <;> rfl
  have hz3 : (![0, 0, 0] : Fin 3 → Nat) = fun _ => 0 := funext fun a => by fin_cases a <;> rfl
  unfold out0_2
  rw [View.canon_unit_zero hz4, payload_apply, View.ld_unit_zero hz3, View.ld_unit, View.ld_unit]
  have el : ∀ k : Fin 192, extractStridedSlice S1x192 ![0, 0] img ⟨rfl, inb_S8x192_S1x192_0_0⟩ (ix2 0 k) = img (ix2 0 k) := fun k =>
    extractStridedSlice_apply _ _ _ _ _ fun a => by
      match a with
      | ⟨0, _⟩ => rfl
      | ⟨1, _⟩ => show k.val = 0 + k.val; omega
  have er : ∀ k : Fin 192, extractStridedSlice S1x192 ![1, 0] img ⟨rfl, inb_S8x192_S1x192_1_0⟩ (ix2 0 k) = img (ix2 1 k) := fun k =>
    extractStridedSlice_apply _ _ _ _ _ fun a => by
      match a with
      | ⟨0, _⟩ => rfl
      | ⟨1, _⟩ => show k.val = 0 + k.val; omega
  exact congrArg₂ (blend _) (el _) (er _)

end Cert.Warp

end
-- ==== Proof.Array.lean ====
/- What the kernel's result array holds. The host part of the program cuts the x-coordinates and the image's first row
   out of the arguments; grid point `t` works on rows `48 (t mod 8)` to `48 (t mod 8) + 47` of batch entry `t / 8`; and
   the sixteen blocks together are the whole result. -/
module

public import proofs.«01_k».proof.Proof.Block
public import Idealize.ShloMosaic.Lib.StableHlo.Run

@[expose] public section

noncomputable section

namespace Cert.Warp

open Idealize.ShloMosaic Idealize.ShloMosaic.ValueIdx Idealize.ShloMosaic.TcCoe Idealize.SL.Sem
open Idealize.ShloMosaic.Pipeline (Dat)
open Cert.KernelIdeal Cert.KernelIdeal.Gen

/-- The array the kernel computes: at `(b, h, w, c)` the blend of channel `c` of the image's first two columns (of its
    first row and first batch entry) by the x-coordinate of pixel `(b, h, w)`. -/
def warped (imgs : Vec Ideal S2x384x384x192 .f32) (coords : Vec Ideal S2x384x384x3 .f32) : Vec Ideal S2x384x384x192 .f32 :=
  fun i => blend (coords (ix4 (i 0) (i 1) (i 2) 1)) (imgs (ix4 0 0 0 (i 3))) (imgs (ix4 0 0 1 (i 3)))

variable (m : (ℓ : Loc nD τ sig) → Buf (Elt Ideal) ℓ) (ρ : Dev nD → PrngReg)

/-- The images on device `c`. -/
abbrev imgs (c : Dev nD) : Vec Ideal S2x384x384x192 .f32 := m ((c : Thread nD τ).loc main_arg0)

/-- The coordinates on device `c`. -/
abbrev coords (c : Dev nD) : Vec Ideal S2x384x384x3 .f32 := m ((c : Thread nD τ).loc main_arg1)

/-- The x-coordinates the kernel is given, as the program's operations make them. -/
theorem xs_eq (c : Dev nD) : V m c main_v1
    = shapeCast S2x384x384 (extractStridedSlice S2x384x384x1 ![0, 0, 0, 1] (coords m c) slices_S2x384x384x3_S2x384x384x1_0_0_0_1)
        shapeCasts_S2x384x384x1_S2x384x384 := by
  dsimp only [V, hostOps0]
  after_results
  rfl

/-- The image rows the kernel is given, as the program's operations make them. -/
theorem rows_eq (c : Dev nD) : V m c main_v3
    = shapeCast S8x192 (extractStridedSlice S1x1x8x192 ![0, 0, 0, 0] (imgs m c) slices_S2x384x384x192_S1x1x8x192_0_0_0_0)
        shapeCasts_S1x1x8x192_S8x192 := by
  dsimp only [V, hostOps0]
  after_results
  rfl

/-- The x-coordinates the kernel is given are component one of the coordinates. -/
theorem xs_apply (c : Dev nD) (b : Fin 2) (h w : Fin 384) :
    (V m c main_v1 : Vec Ideal S2x384x384 .f32) (ix3 b h w) = coords m c (ix4 b h w 1) := by
  rw [xs_eq]
  refine (shapeCast_apply _ _ _ (ix4 b h w 0) ?_).trans (extractStridedSlice_apply _ _ _ _ _ ?_)
  · rw [Shape.rowMajor_val_four, Shape.rowMajor_val_three]
    show ((b.val * 384 + h.val) * 384 + w.val) * 1 + 0 = (b.val * 384 + h.val) * 384 + w.val
    omega
  · intro a
    match a with
    | ⟨0, _⟩ => show b.val = 0 + b.val; omega
    | ⟨1, _⟩ => show h.val = 0 + h.val; omega
    | ⟨2, _⟩ => show w.val = 0 + w.val; omega
    | ⟨3, _⟩ => rfl

/-- The image rows the kernel is given are the first eight columns of the image's first row. -/
theorem rows_apply (c : Dev nD) (k : Fin 8) (k' : Fin 384) (hk : k'.val = k.val) (ch : Fin 192) :
    (V m c main_v3 : Vec Ideal S8x192 .f32) (ix2 k ch) = imgs m c (ix4 0 0 k' ch) := by
  rw [rows_eq]
  refine (shapeCast_apply _ _ _ (ix4 0 0 k ch) ?_).trans (extractStridedSlice_apply _ _ _ _ _ ?_)
  · rw [Shape.rowMajor_val_four, Shape.rowMajor_val_two]
    show ((0 * 1 + 0) * 8 + k.val) * 192 + ch.val = k.val * 192 + ch.val
    omega
  · intro a
    match a with
    | ⟨0, _⟩ => rfl
    | ⟨1, _⟩ => rfl
    | ⟨2, _⟩ => show k'.val = 0 + k.val; omega
    | ⟨3, _⟩ => show ch.val = 0 + ch.val; omega

/-- Where each window's block lies at grid point `t`. -/
theorem points : ∀ t : Fin cfg0.N,
    (win0_0.index t 0 = 0 ∧ win0_0.index t 1 = 0)
    ∧ (win0_1.index t 0 = t.val / 8 ∧ win0_1.index t 1 = t.val % 8 ∧ win0_1.index t 2 = 0)
    ∧ (win0_2.index t 0 = t.val / 8 ∧ win0_2.index t 1 = t.val % 8 ∧ win0_2.index t 2 = 0 ∧ win0_2.index t 3 = 0) :=
  (by decide +kernel : ∀ t : Fin grid0.N,
    (win0_0.index t 0 = 0 ∧ win0_0.index t 1 = 0)
    ∧ (win0_1.index t 0 = t.val / 8 ∧ win0_1.index t 1 = t.val % 8 ∧ win0_1.index t 2 = 0)
    ∧ (win0_2.index t 0 = t.val / 8 ∧ win0_2.index t 1 = t.val % 8 ∧ win0_2.index t 2 = 0 ∧ win0_2.index t 3 = 0))

/-- The staged image rows are, at every grid point, the first columns of the image's first row. -/
theorem stagedRows_apply (c : Dev nD) (t : Fin cfg0.N) (k : Fin 8) (k' : Fin 384) (hk : k'.val = k.val) (ch : Fin 192) :
    (iblk m c 0 t : Vec Ideal S8x192 .f32) (ix2 k ch) = imgs m c (ix4 0 0 k' ch) := by
  refine Eq.trans ?_ (rows_apply m c k k' hk ch)
  show (V m c main_v3 : Vec Ideal S8x192 .f32) ((win0_0.rect t).emb (ix2 k ch)) = _
  refine congrArg _ (funext fun a => Fin.ext ?_)
  obtain ⟨⟨e0, e1⟩, -, -⟩ := points t
  match a with
  | ⟨0, _⟩ => show win0_0.index t 0 * 8 + 1 * k.val = k.val; rw [e0]; omega
  | ⟨1, _⟩ => show win0_0.index t 1 * 192 + 1 * ch.val = ch.val; rw [e1]; omega

/-- The staged x-coordinates at grid point `t` are those of its 48 rows. -/
theorem stagedXs_apply (c : Dev nD) (t : Fin cfg0.N) (r : Fin 48) (w : Fin 384) (b : Fin 2) (h : Fin 384)
    (hb : b.val = t.val / 8) (hh : h.val = t.val % 8 * 48 + r.val) :
    (iblk m c 1 t : Vec Ideal S1x48x384 .f32) (ix3 0 r w) = coords m c (ix4 b h w 1) := by
  refine Eq.trans ?_ (xs_apply m c b h w)
  show (V m c main_v1 : Vec Ideal S2x384x384 .f32) ((win0_1.rect t).emb (ix3 0 r w)) = _
  refine congrArg _ (funext fun a => Fin.ext ?_)
  obtain ⟨-, ⟨e0, e1, e2⟩, -⟩ := points t
  match a with
  | ⟨0, _⟩ => show win0_1.index t 0 * 1 + 1 * 0 = b.val; rw [e0]; omega
  | ⟨1, _⟩ => show win0_1.index t 1 * 48 + 1 * r.val = h.val; rw [e1]; omega
  | ⟨2, _⟩ => show win0_1.index t 2 * 384 + 1 * w.val = w.val; rw [e2]; omega

/-- What grid point `t` writes back is its block of `warped`. -/
theorem flushed_eq (c : Dev nD) (t : Fin cfg0.N) :
    (dats m 0 c).flushed 2 t = ((cfg0.win 2).blk t).view.read (Elt Ideal) (warped (imgs m c) (coords m c)) := by
  show (cfg0.win 2).cut (grid0.coords t) ((dats m 0 c).after 2 t) = _
  rw [after0_2]
  refine funext fun (y : S1x48x384x192.Idx) => ?_
  show out0_2 (iblk m c 0 t) (iblk m c 1 t) y = warped (imgs m c) (coords m c) ((win0_2.rect t).emb y)
  obtain ⟨-, -, ⟨e0, e1, e2, e3⟩⟩ := points t
  have h0 : (y 0).val < 1 := (y 0).isLt
  have i0 : ((win0_2.rect t).emb y 0).val = t.val / 8 := by
    show win0_2.index t 0 * 1 + 1 * (y 0).val = _; rw [e0]; omega
  have i1 : ((win0_2.rect t).emb y 1).val = t.val % 8 * 48 + (y 1).val := by
    show win0_2.index t 1 * 48 + 1 * (y 1).val = _; rw [e1]; omega
  have i2 : ((win0_2.rect t).emb y 2) = y 2 := Fin.ext <| by
    show win0_2.index t 2 * 384 + 1 * (y 2).val = _; rw [e2]; omega
  have i3 : ((win0_2.rect t).emb y 3) = y 3 := Fin.ext <| by
    show win0_2.index t 3 * 192 + 1 * (y 3).val = _; rw [e3]; omega
  have eX : (iblk m c 1 t : Vec Ideal S1x48x384 .f32) (ix3 0 (y 1) (y 2)) = coords m c (ix4 ((win0_2.rect t).emb y 0)
      ((win0_2.rect t).emb y 1) ((win0_2.rect t).emb y 2) 1) :=
    (stagedXs_apply m c t (y 1) (y 2) _ _ i0 i1).trans
      (congrArg (fun w : Fin 384 => coords m c (ix4 ((win0_2.rect t).emb y 0) ((win0_2.rect t).emb y 1) w 1)) i2.symm)
  have eR (k : Fin 8) (k' : Fin 384) (hk : k'.val = k.val) : (iblk m c 0 t : Vec Ideal S8x192 .f32) (ix2 k (y 3))
      = imgs m c (ix4 0 0 k' ((win0_2.rect t).emb y 3)) :=
    (stagedRows_apply m c t k k' hk (y 3)).trans (congrArg (fun ch : Fin 192 => imgs m c (ix4 0 0 k' ch)) i3.symm)
  exact (block_apply _ _ y).trans (congr (congrArg₂ blend eX (eR 0 0 rfl)) (eR 1 1 rfl))

/-- The sixteen blocks cover the result: element `(b, h, w, c)` is written at grid point `8 b + h / 48`. -/
theorem cover (i : S2x384x384x192.Idx) :
    ∃ t : Fin cfg0.N, (cfg0.win 2).flush t = true ∧ i ∈ ((cfg0.win 2).blk t).view.set := by
  have h0 : (i 0).val < 2 := (i 0).isLt
  have h1 : (i 1).val < 384 := (i 1).isLt
  have h2 : (i 2).val < 384 := (i 2).isLt
  have h3 : (i 3).val < 192 := (i 3).isLt
  have hN : cfg0.N = 16 := N_0
  refine ⟨⟨(i 0).val * 8 + (i 1).val / 48, by omega⟩, flush0_2 _, ?_⟩
  obtain ⟨-, -, ⟨e0, e1, e2, e3⟩⟩ := points ⟨(i 0).val * 8 + (i 1).val / 48, by omega⟩
  generalize htt : (⟨(i 0).val * 8 + (i 1).val / 48, _⟩ : Fin cfg0.N) = t at e0 e1 e2 e3 ⊢
  have ht : t.val = (i 0).val * 8 + (i 1).val / 48 := by rw [← htt]
  show i ∈ ((View.whole main_v4).slice (win0_2.rect t)).set
  rw [View.set_slice_whole, Rect.mem_set_unit]
  intro a
  match a with
  | ⟨0, _⟩ => show win0_2.index t 0 * 1 ≤ (i 0).val ∧ (i 0).val < win0_2.index t 0 * 1 + 1; rw [e0]; omega
  | ⟨1, _⟩ => show win0_2.index t 1 * 48 ≤ (i 1).val ∧ (i 1).val < win0_2.index t 1 * 48 + 48; rw [e1]; omega
  | ⟨2, _⟩ => show win0_2.index t 2 * 384 ≤ (i 2).val ∧ (i 2).val < win0_2.index t 2 * 384 + 384; rw [e2]; omega
  | ⟨3, _⟩ => show win0_2.index t 3 * 192 ≤ (i 3).val ∧ (i 3).val < win0_2.index t 3 * 192 + 192; rw [e3]; omega

/-- After the last grid point the result array is `warped` of the arguments. -/
theorem final_eq (c : Dev nD) : (dats m 0 c).arrAt 2 cfg0.N = warped (imgs m c) (coords m c) :=
  (dats m 0 c).arrAt_eq_of_cover 2 _ (fun t _ => flushed_eq m c t) cover

/-- The kernel runs, its result array ends at `warped` of the arguments, and the arguments are unchanged. -/
theorem kernel_run : θ_run defs (onTc (τ := τ) (main (F := Ideal))) ⟨m, fun _ => 0, ρ⟩ fun r => ∀ c : Dev nD,
      r.2.mem ((c : Thread nD τ).loc main_v4) = warped (imgs m c) (coords m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final_eq m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.Warp

end
-- ==== Proof.Reference.lean ====
/- What the reference computes where every coordinate is in `[0, 1)`. There its three index arrays are constant — batch
   entry 0, row 0, and column 0 or 1 — so each gather reads one pixel of the image, and the result is the blend of two. -/
module

public import proofs.«01_k».proof.Proof.Scalars
public import proofs.«01_k».proof.Proof.Gen.ReferenceIdeal.Run
public import Idealize.ShloMosaic.Lib.Pipeline.Value
public import Idealize.ShloMosaic.Lib.ValueIdxCore

@[expose] public section

noncomputable section

namespace Cert.WarpRef

open Idealize.ShloMosaic Idealize.ShloMosaic.ValueIdx Idealize.ShloMosaic.TcCoe Idealize.SL.Sem
open Cert.ReferenceIdeal Cert.ReferenceIdeal.Gen Cert.Warp

/-- The gather read at an index: the channels of the pixel whose batch entry, row and column are the three start
    indices there, each read as a signed number and kept inside the image. -/
theorem gather_apply (x : S2x384x384x192.Idx → Ideal .f32) (idx : IVec S2x384x384x3 32) (y : S2x384x384x192.Idx) :
    Host.gather gather_S2x384x384x192_S2x384x384x3_S2x384x384x192_3_012_n_n_012_3_111192 x idx y
      = x (ix4 ⟨min (idx (ix4 (y 0) (y 1) (y 2) 0)).toInt.toNat 1, by omega⟩
            ⟨min (idx (ix4 (y 0) (y 1) (y 2) 1)).toInt.toNat 383, by omega⟩
            ⟨min (idx (ix4 (y 0) (y 1) (y 2) 2)).toInt.toNat 383, by omega⟩ (y 3)) := by
  unfold Host.gather
  refine congrArg x (funext fun a => Fin.ext ?_)
  generalize hd : gather_S2x384x384x192_S2x384x384x3_S2x384x384x192_3_012_n_n_012_3_111192 = d
  have hs : d.startIndexMap = [0, 1, 2] := by rw [← hd]; rfl
  have hc : d.collapsedSliceDims = [0, 1, 2] := by rw [← hd]; rfl
  have hb : d.operandBatchingDims = [] := by rw [← hd]; rfl
  subst hd
  show GatherDims.start _ y idx a + GatherDims.batchCoord _ y a + GatherDims.offCoord _ y a = _
  rw [GatherDims.batchCoord_eq_zero _ _ _ (by rw [hb]; simp), Nat.add_zero]
  have si : ∀ (k : Fin 3) (h : k.val < _), GatherDims.siIdx
      gather_S2x384x384x192_S2x384x384x3_S2x384x384x192_3_012_n_n_012_3_111192 y ⟨k.val, h⟩ = ix4 (y 0) (y 1) (y 2) k := by
    intro k h
    funext b
    refine Fin.ext ?_
    match b with
    | ⟨0, _⟩ => rfl
    | ⟨1, _⟩ => rfl
    | ⟨2, _⟩ => rfl
    | ⟨3, _⟩ => rfl
  match a with
  | ⟨0, _⟩ =>
    rw [GatherDims.offCoord_eq_zero _ _ _ (fun h => ((GatherDims.mem_sKept _ _).mp h).1 (by rw [hc]; simp))]
    unfold GatherDims.start
    rw [dif_pos (by rw [hs]; simp)]
    exact congrArg (fun i => min (idx i).toInt.toNat 1) (si 0 _)
  | ⟨1, _⟩ =>
    rw [GatherDims.offCoord_eq_zero _ _ _ (fun h => ((GatherDims.mem_sKept _ _).mp h).1 (by rw [hc]; simp))]
    unfold GatherDims.start
    rw [dif_pos (by rw [hs]; simp)]
    exact congrArg (fun i => min (idx i).toInt.toNat 383) (si 1 _)
  | ⟨2, _⟩ =>
    rw [GatherDims.offCoord_eq_zero _ _ _ (fun h => ((GatherDims.mem_sKept _ _).mp h).1 (by rw [hc]; simp))]
    unfold GatherDims.start
    rw [dif_pos (by rw [hs]; simp)]
    exact congrArg (fun i => min (idx i).toInt.toNat 383) (si 2 _)
  | ⟨3, _⟩ =>
    unfold GatherDims.start
    rw [dif_neg (by rw [hs]; simp)]
    show 0 + _ = _
    rw [Nat.zero_add]
    rfl

/-- An index array with negative entries counted from the end, given a last axis of length one. -/
def wrapped (n : BitVec 32) (u : IVec S2x384x384 32) : IVec S2x384x384x1 32 :=
  broadcastInDim S2x384x384x1 ![0, 1, 2] bcast_S2x384x384_S2x384x384x1_0_1_2
    (select (cmpi .slt u (broadcastInDim S2x384x384 ![] bcast_S_S2x384x384 (constantI S_ 32 0#32)))
      (addi u (broadcastInDim S2x384x384 ![] bcast_S_S2x384x384 (constantI S_ 32 n))) u)

/-- Where the index is a constant that is not negative, counting from the end changes nothing. -/
theorem wrapped_const (n k : BitVec 32) (hk : IntOp.cmpi .slt k 0#32 ≠ 1#1) (j : S2x384x384x1.Idx) :
    wrapped n (fun _ => k) j = k :=
  if_neg hk

/-- The three index arrays side by side along the last axis. -/
def triple (u0 u1 u2 : IVec S2x384x384x1 32) : IVec S2x384x384x3 32 :=
  concatenate S2x384x384x3 3 [⟨S2x384x384x1, u0⟩, ⟨S2x384x384x1, u1⟩, ⟨S2x384x384x1, u2⟩]
    concatenates_S2x384x384x1_S2x384x384x1_S2x384x384x1_S2x384x384x3_d3

/-- The first of the three. -/
theorem triple_zero (u0 u1 u2 : IVec S2x384x384x1 32) (a : Fin 2) (b c : Fin 384) :
    triple u0 u1 u2 (ix4 a b c 0) = u0 (ix4 a b c 0) :=
  concatenate_apply_piece 3 [⟨S2x384x384x1, u0⟩, ⟨S2x384x384x1, u1⟩, ⟨S2x384x384x1, u2⟩] concatenates_S2x384x384x1_S2x384x384x1_S2x384x384x1_S2x384x384x3_d3
    (ix4 a b c 0) 0 (Nat.lt_of_sub_pos (Nat.succ_pos _)) S2x384x384x1 u0 rfl rfl 0 rfl (ix4 a b c 0) (fun b hb => by
      match b with
      | ⟨0, _⟩ => rfl
      | ⟨1, _⟩ => rfl
      | ⟨2, _⟩ => rfl
      | ⟨3, _⟩ => exact absurd rfl hb) rfl

/-- The second. -/
theorem triple_one (u0 u1 u2 : IVec S2x384x384x1 32) (a : Fin 2) (b c : Fin 384) :
    triple u0 u1 u2 (ix4 a b c 1) = u1 (ix4 a b c 0) :=
  concatenate_apply_piece 3 [⟨S2x384x384x1, u0⟩, ⟨S2x384x384x1, u1⟩, ⟨S2x384x384x1, u2⟩] concatenates_S2x384x384x1_S2x384x384x1_S2x384x384x1_S2x384x384x3_d3
    (ix4 a b c 1) 1 (Nat.lt_of_sub_pos (Nat.succ_pos _)) S2x384x384x1 u1 rfl rfl 1 rfl (ix4 a b c 0) (fun b hb => by
      match b with
      | ⟨0, _⟩ => rfl
      | ⟨1, _⟩ => rfl
      | ⟨2, _⟩ => rfl
      | ⟨3, _⟩ => exact absurd rfl hb) rfl

/-- The third. -/
theorem triple_two (u0 u1 u2 : IVec S2x384x384x1 32) (a : Fin 2) (b c : Fin 384) :
    triple u0 u1 u2 (ix4 a b c 2) = u2 (ix4 a b c 0) :=
  concatenate_apply_piece 3 [⟨S2x384x384x1, u0⟩, ⟨S2x384x384x1, u1⟩, ⟨S2x384x384x1, u2⟩] concatenates_S2x384x384x1_S2x384x384x1_S2x384x384x1_S2x384x384x3_d3
    (ix4 a b c 2) 2 (Nat.lt_of_sub_pos (Nat.succ_pos _)) S2x384x384x1 u2 rfl rfl 2 rfl (ix4 a b c 0) (fun b hb => by
      match b with
      | ⟨0, _⟩ => rfl
      | ⟨1, _⟩ => rfl
      | ⟨2, _⟩ => rfl
      | ⟨3, _⟩ => exact absurd rfl hb) rfl

/-- The gather at constant indices: batch entry 0, row 0 and column `k`, which is 0 or 1. -/
theorem gather_const (x : S2x384x384x192.Idx → Ideal .f32) (u0 u1 u2 : IVec S2x384x384 32) (k : Fin 384) (kw : BitVec 32)
    (hneg : IntOp.cmpi .slt kw 0#32 ≠ 1#1) (hk : min kw.toInt.toNat 383 = k.val)
    (h0 : u0 = fun _ => 0#32) (h1 : u1 = fun _ => 0#32) (h2 : u2 = fun _ => kw) (y : S2x384x384x192.Idx) :
    Host.gather gather_S2x384x384x192_S2x384x384x3_S2x384x384x192_3_012_n_n_012_3_111192 x
        (triple (wrapped 2#32 u0) (wrapped 384#32 u1) (wrapped 384#32 u2)) y
      = x (ix4 0 0 k (y 3)) := by
  subst h0 h1 h2
  rw [gather_apply]
  refine congrArg x (funext fun a => Fin.ext ?_)
  match a with
  | ⟨0, _⟩ =>
    refine Eq.trans (congrArg (fun v : BitVec 32 => min v.toInt.toNat 1)
      ((triple_zero _ _ _ _ _ _).trans (wrapped_const 2#32 0#32 (by decide) _))) rfl
  | ⟨1, _⟩ =>
    refine Eq.trans (congrArg (fun v : BitVec 32 => min v.toInt.toNat 383)
      ((triple_one _ _ _ _ _ _).trans (wrapped_const 384#32 0#32 (by decide) _))) rfl
  | ⟨2, _⟩ =>
    refine Eq.trans (congrArg (fun v : BitVec 32 => min v.toInt.toNat 383)
      ((triple_two _ _ _ _ _ _).trans (wrapped_const 384#32 kw hneg _))) hk
  | ⟨3, _⟩ => rfl

/-- One component of the coordinates, as an array with a last axis of length one. -/
theorem component_apply (coords : S2x384x384x3.Idx → Ideal .f32) (k : Fin 3) (off : Fin 4 → Nat) (hoff : off = ![0, 0, 0, k.val])
    (h : S2x384x384x3.Slices off S2x384x384x1) (j : S2x384x384x1.Idx) :
    extractStridedSlice S2x384x384x1 off coords h j = coords (ix4 (j 0) (j 1) (j 2) k) := by
  subst hoff
  refine extractStridedSlice_apply _ _ _ _ _ fun a => ?_
  have h3 : (j 3).val < 1 := (j 3).isLt
  match a with
  | ⟨0, _⟩ => show (j 0).val = 0 + (j 0).val; omega
  | ⟨1, _⟩ => show (j 1).val = 0 + (j 1).val; omega
  | ⟨2, _⟩ => show (j 2).val = 0 + (j 2).val; omega
  | ⟨3, _⟩ => show k.val = k.val + (j 3).val; omega

/-- Per-pixel weights repeated along the channels: at `y` the weight of `y`'s pixel. -/
theorem perPixel_apply (v : S2x384x384x1.Idx → Ideal .f32) (y : S2x384x384x192.Idx) :
    broadcastInDim S2x384x384x192 ![0, 1, 2, 3] bcast_S2x384x384x1_S2x384x384x192_0_1_2_3 v y = v (ix4 (y 0) (y 1) (y 2) 0) := by
  refine broadcastInDim_apply _ _ _ _ _ fun a => ?_
  match a with
  | ⟨0, _⟩ => rfl
  | ⟨1, _⟩ => rfl
  | ⟨2, _⟩ => rfl
  | ⟨3, _⟩ => rfl

/-- The reference's left weights, from the array `s` of x-coordinates. -/
theorem left_apply (s : FVec Ideal S2x384x384x1 .f32) (j : S2x384x384x1.Idx) :
    mulf (subf (addf (Host.floor s) (broadcastInDim S2x384x384x1 ![] bcast_S_S2x384x384x1 (constant S_ .f32 0x3F800000#32))) s)
        (uitofp .f32 (cmpf .oeq (Host.floor s)
          (minimumf (broadcastInDim S2x384x384x1 ![] bcast_S_S2x384x384x1 (constant S_ .f32 0x43BF8000#32))
            (maximumf (broadcastInDim S2x384x384x1 ![] bcast_S_S2x384x384x1 (id (constant S_ .f32 0x00000000#32))) (Host.floor s))))) j
      = leftWeight (s j) :=
  congrArg (FloatOps.mulf _) (uitofp_bit _)

/-- The reference's right weights, from the array `s` of x-coordinates. -/
theorem right_apply (s : FVec Ideal S2x384x384x1 .f32) (j : S2x384x384x1.Idx) :
    mulf (subf s (Host.floor s))
        (uitofp .f32 (cmpf .oeq (addf (Host.floor s) (broadcastInDim S2x384x384x1 ![] bcast_S_S2x384x384x1 (constant S_ .f32 0x3F800000#32)))
          (minimumf (broadcastInDim S2x384x384x1 ![] bcast_S_S2x384x384x1 (constant S_ .f32 0x43BF8000#32))
            (maximumf (broadcastInDim S2x384x384x1 ![] bcast_S_S2x384x384x1 (id (constant S_ .f32 0x00000000#32)))
              (addf (Host.floor s) (broadcastInDim S2x384x384x1 ![] bcast_S_S2x384x384x1 (constant S_ .f32 0x3F800000#32))))))) j
      = rightWeight (s j) :=
  congrArg (FloatOps.mulf _) (uitofp_bit _)

/-- The reference's result where every coordinate is in `[0, 1)`: the blend, by the x-coordinate of the pixel, of the
    image's first two columns (of its first row and first batch entry). -/
theorem result_apply (m : (ℓ : Loc nD τ sig) → Buf (Elt Ideal) ℓ) (c : Dev nD)
    (imgs : S2x384x384x192.Idx → Ideal .f32) (coords : S2x384x384x3.Idx → Ideal .f32)
    (hi : m ((c.tc : Thread nD τ).loc main_arg0) = imgs) (hx : m ((c.tc : Thread nD τ).loc main_arg1) = coords)
    (h0 : ∀ i, (0 : EReal) ≤ coords i) (h1 : ∀ i, coords i < (1 : EReal)) (y : S2x384x384x192.Idx) :
    (Value.res_out0 m c : S2x384x384x192.Idx → Ideal .f32) y
      = blend (coords (ix4 (y 0) (y 1) (y 2) 1)) (imgs (ix4 0 0 0 (y 3))) (imgs (ix4 0 0 1 (y 3))) := by
  unfold Value.res_out0 Value.res_main_v70
  rw [hi, hx]
  -- the batch entry's index: the integer part of component zero
  have hb : fptosi 32 (shapeCast S2x384x384 (extractStridedSlice S2x384x384x1 ![0, 0, 0, 0] coords
      slices_S2x384x384x3_S2x384x384x1_0_0_0_0) shapeCasts_S2x384x384x1_S2x384x384) = fun _ => 0#32 :=
    funext fun j => fptosi_unit (h0 _) (h1 _)
  -- the row's index: the clipped floor of component two
  have hr : fptosi 32 (shapeCast S2x384x384
      (minimumf (broadcastInDim S2x384x384x1 ![] bcast_S_S2x384x384x1 (constant S_ .f32 0x43BF8000#32))
        (maximumf (broadcastInDim S2x384x384x1 ![] bcast_S_S2x384x384x1 (id (constant S_ .f32 0x00000000#32)))
          (Host.floor (extractStridedSlice S2x384x384x1 ![0, 0, 0, 2] coords slices_S2x384x384x3_S2x384x384x1_0_0_0_2))))
      shapeCasts_S2x384x384x1_S2x384x384) = fun _ => 0#32 :=
    funext fun j => floor_index (h0 _) (h1 _)
  -- the left column's index: the clipped floor of component one
  have hl : fptosi 32 (shapeCast S2x384x384
      (minimumf (broadcastInDim S2x384x384x1 ![] bcast_S_S2x384x384x1 (constant S_ .f32 0x43BF8000#32))
        (maximumf (broadcastInDim S2x384x384x1 ![] bcast_S_S2x384x384x1 (id (constant S_ .f32 0x00000000#32)))
          (Host.floor (extractStridedSlice S2x384x384x1 ![0, 0, 0, 1] coords slices_S2x384x384x3_S2x384x384x1_0_0_0_1))))
      shapeCasts_S2x384x384x1_S2x384x384) = fun _ => 0#32 :=
    funext fun j => floor_index (h0 _) (h1 _)
  -- the right column's index: that floor plus one, clipped
  have hn : fptosi 32 (shapeCast S2x384x384
      (minimumf (broadcastInDim S2x384x384x1 ![] bcast_S_S2x384x384x1 (constant S_ .f32 0x43BF8000#32))
        (maximumf (broadcastInDim S2x384x384x1 ![] bcast_S_S2x384x384x1 (id (constant S_ .f32 0x00000000#32)))
          (addf (Host.floor (extractStridedSlice S2x384x384x1 ![0, 0, 0, 1] coords slices_S2x384x384x3_S2x384x384x1_0_0_0_1))
            (broadcastInDim S2x384x384x1 ![] bcast_S_S2x384x384x1 (constant S_ .f32 0x3F800000#32)))))
      shapeCasts_S2x384x384x1_S2x384x384) = fun _ => 1#32 :=
    funext fun j => next_index (h0 _) (h1 _)
  have ex := component_apply coords 1 ![0, 0, 0, 1] rfl slices_S2x384x384x3_S2x384x384x1_0_0_0_1 (ix4 (y 0) (y 1) (y 2) 0)
  refine congrArg₂ FloatOps.addf (congrArg₂ FloatOps.mulf ?_ ?_) (congrArg₂ FloatOps.mulf ?_ ?_)
  · exact (perPixel_apply _ y).trans ((left_apply _ _).trans (congrArg leftWeight ex))
  · exact gather_const imgs _ _ _ 0 0#32 (by decide) (by decide) hb hr hl y
  · exact (perPixel_apply _ y).trans ((right_apply _ _).trans (congrArg rightWeight ex))
  · exact gather_const imgs _ _ _ 1 1#32 (by decide) (by decide) hb hr hn y

end Cert.WarpRef

end
-- ==== Proof.Equation.lean ====
/- The equation: where every coordinate is in `[0, 1)`, the reference's result is the array the kernel computes. -/
module

public import proofs.«01_k».proof.Defs
public import proofs.«01_k».proof.Proof.Array
public import proofs.«01_k».proof.Proof.Reference
public import proofs.«01_k».proof.Proof.Gen.Pre_coords_drawn

@[expose] public section

noncomputable section

namespace Cert.Equation

open Idealize.ShloMosaic Idealize.SL.Sem

/-- A comparison's bit is set exactly when the comparison holds. -/
theorem of_bit {p : Prop} [Decidable p] (h : BitVec.ofBool (decide p) = 1#1) : p := by
  by_contra hp
  rw [decide_eq_false hp] at h
  exact absurd h (by decide)

/-- Both of two bits are set when their conjunction is. -/
theorem and_bits (a b : BitVec 1) (h : a &&& b = 1#1) : a = 1#1 ∧ b = 1#1 := by
  revert a b
  decide

/-- The precondition says of each coordinate that it is in `[0, 1)`. -/
theorem unit_of_drawn (imgs : FVec Ideal Cert.Pre_coords_drawn.S2x384x384x192 .f32)
    (coords : FVec Ideal Cert.Pre_coords_drawn.S2x384x384x3 .f32)
    (h : Cert.Pre_coords_drawn.fn (F := Ideal) imgs coords = fun _ => 1#1) (i : Cert.Pre_coords_drawn.S2x384x384x3.Idx) :
    (0 : EReal) ≤ coords i ∧ coords i < (1 : EReal) := by
  obtain ⟨ge, lt⟩ := and_bits _ _ (congrFun h i)
  have ge' : Ideal.ofBits .f32 0x00000000#32 ≤ coords i := of_bit ge
  have lt' : coords i < Ideal.ofBits .f32 0x3F800000#32 := of_bit lt
  rw [Ideal.ofBits_zero_f32] at ge'
  rw [Ideal.ofBits_one_f32] at lt'
  exact ⟨ge', lt'⟩

/-- From memories that agree on the arguments, whose coordinates are in `[0, 1)`, the two results are equal. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Pre_KernelIdeal_coords_drawn m) (c : Dev Cert.KernelIdeal.nD)
    (hi : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (hx : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Value.res_main_v70 (F := Ideal) m' c = Cert.Warp.warped (Cert.Warp.imgs m c) (Cert.Warp.coords m c) :=
  funext fun y => WarpRef.result_apply m' c (Cert.Warp.imgs m c) (Cert.Warp.coords m c) hi hx
    (fun i => (unit_of_drawn _ _ (hpre c) i).1) (fun i => (unit_of_drawn _ _ (hpre c) i).2) y

/-- The value claim: both programs run, end with equal results and leave their arguments unchanged. -/
theorem algebraic : algebraic_KernelIdeal_ReferenceIdeal_pre_coords_drawn :=
  fun m g m' g' hpre hagree => ⟨fun c => Cert.Warp.warped (Cert.Warp.imgs m c) (Cert.Warp.coords m c),
    Cert.Warp.kernel_run m g,
    (θ_run Cert.ReferenceIdeal.defs _ _).mono
      (fun _ h c => ⟨(h c).1.trans (results_eq m m' hpre c (hagree c).1 (hagree c).2), (h c).2⟩)
      (Cert.ReferenceIdeal.Value.run (F := Ideal) m' g')⟩

end Cert.Equation

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_coords_drawn
public import proofs.«01_k».proof.Proof.Equation
public import Idealize.ShloMosaic.Lib.Quiescent

@[expose] public section

noncomputable section

namespace Cert.Proof

open Idealize.ShloMosaic Idealize.SL.Sem

/-- The reference runs from any memory, leaves its arguments unchanged and every semaphore at zero: it has none. -/
theorem reference_frame : quiescent_ReferenceIdeal :=
  fun m g _ => (θ_run Cert.ReferenceIdeal.defs _ _).mono
    (fun r h => ⟨fun c => (h c).2, sem_eq_zero_of_no_sems (by decide) r.2⟩)
    (Cert.ReferenceIdeal.Value.run (F := Ideal) m g)

/-- Every claim of the certificate. -/
theorem claim : Cert.Claim :=
  ⟨Cert.Kernel.Gen.facts, Cert.KernelIdeal.Gen.facts, Cert.ReferenceIdeal.Gen.facts, Cert.Pre_coords_drawn.Gen.facts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    Cert.Equation.algebraic⟩

end Cert.Proof

end
